-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S32x4096x64 : Shape := ⟨3, ![32, 4096, 64]⟩
abbrev S32x64x4x64 : Shape := ⟨4, ![32, 64, 4, 64]⟩
abbrev S_ : Shape := ⟨0, ![]⟩
abbrev S32x4096 : Shape := ⟨2, ![32, 4096]⟩
abbrev S32x4096x1 : Shape := ⟨3, ![32, 4096, 1]⟩
abbrev S32x4096x4x64 : Shape := ⟨4, ![32, 4096, 4, 64]⟩
abbrev S32x4096x4x128 : Shape := ⟨4, ![32, 4096, 4, 128]⟩
abbrev S32x4096x4 : Shape := ⟨3, ![32, 4096, 4]⟩
abbrev S32x4096x4x1 : Shape := ⟨4, ![32, 4096, 4, 1]⟩

class Facts : Prop where
  reducesTo_S32x4096x64_S32x4096_d2 : S32x4096x64.ReducesTo [2] S32x4096
  h_S_ : 0 < S_.numel
  bcast_S32x4096_S32x4096x1_0_1 : S32x4096.BroadcastsInDim S32x4096x1 (![0, 1] : Fin 2 → Fin S32x4096x1.rank)
  bcast_S_S32x4096x1 : S_.BroadcastsInDim S32x4096x1 (![] : Fin 0 → Fin S32x4096x1.rank)
  bcast_S32x4096x1_S32x4096x64_0_1_2 : S32x4096x1.BroadcastsInDim S32x4096x64 (![0, 1, 2] : Fin 3 → Fin S32x4096x64.rank)
  concatenates_S32x4096x4x64_S32x4096x4x64_S32x4096x4x128_d3 : Shape.Concatenates [S32x4096x4x64, S32x4096x4x64] S32x4096x4x128 3
  reducesTo_S32x4096x4x128_S32x4096x4_d3 : S32x4096x4x128.ReducesTo [3] S32x4096x4
  bcast_S32x4096x4_S32x4096x4x1_0_1_2 : S32x4096x4.BroadcastsInDim S32x4096x4x1 (![0, 1, 2] : Fin 3 → Fin S32x4096x4x1.rank)
  bcast_S32x4096x4x1_S32x4096x4x64_0_1_2_3 : S32x4096x4x1.BroadcastsInDim S32x4096x4x64 (![0, 1, 2, 3] : Fin 4 → Fin S32x4096x4x64.rank)
  natLt_1_32 : 1 < 32
  reducesTo_S32x4096x4x64_S32x4096x4_d3 : S32x4096x4x64.ReducesTo [3] S32x4096x4
  bcast_S_S32x4096x4 : S_.BroadcastsInDim S32x4096x4 (![] : Fin 0 → Fin S32x4096x4.rank)
  dot_S32x4096x64_S32x64x4x64_S32x4096x4x64_2_1_1_23_0_0_wf : DotDims.WF S32x4096x64 S32x64x4x64 S32x4096x4x64 [2] [1] [1] [2, 3] [0] [0]

variable [Facts]

def dot_S32x4096x64_S32x64x4x64_S32x4096x4x64_2_1_1_23_0_0 : DotDims S32x4096x64 S32x64x4x64 S32x4096x4x64 where
  lhsContracting := [2]
  rhsContracting := [1]
  lhsNonContracting := [1]
  rhsNonContracting := [2, 3]
  lhsBatch := [0]
  rhsBatch := [0]
  wf := dot_S32x4096x64_S32x64x4x64_S32x4096x4x64_2_1_1_23_0_0_wf
def fn_part1 {F : FTy → Type} [FloatOps F] (main_v16 : IVec S32x4096x4 32) (main_v19 : IVec S32x4096x4x64 1) : IVec S32x4096x4 1 :=
  let main_v20 : IVec S32x4096x4x64 32 := (extui 32 · natLt_1_32) main_v19
  let main_c_2 : IVec S_ 32 := constantI S_ 32 0#32
  let main_v21 : IVec S32x4096x4 32 := (fun x v => Host.reduce IntOp.addi x v reducesTo_S32x4096x4x64_S32x4096x4_d3 h_S_) main_v20 main_c_2
  let main_c_3 : IVec S_ 32 := constantI S_ 32 1#32
  let main_v22 : IVec S32x4096x4 32 := broadcastInDim S32x4096x4 ![] bcast_S_S32x4096x4 main_c_3
  let main_v23 : IVec S32x4096x4 1 := cmpi .eq main_v16 main_v22
  let main_c_4 : IVec S_ 32 := constantI S_ 32 0#32
  let main_v24 : IVec S32x4096x4 32 := broadcastInDim S32x4096x4 ![] bcast_S_S32x4096x4 main_c_4
  let main_v25 : IVec S32x4096x4 1 := cmpi .eq main_v16 main_v24
  let main_c_5 : IVec S_ 32 := constantI S_ 32 1#32
  let main_v26 : IVec S32x4096x4 32 := broadcastInDim S32x4096x4 ![] bcast_S_S32x4096x4 main_c_5
  let main_v27 : IVec S32x4096x4 1 := cmpi .eq main_v21 main_v26
  let main_v28 : IVec S32x4096x4 1 := andi main_v25 main_v27
  let main_v29 : IVec S32x4096x4 1 := ori main_v23 main_v28
  main_v29

def fn {F : FTy → Type} [FloatOps F] (main_arg0 : FVec F S32x4096x64 .f32) (main_arg1 : FVec F S32x64x4x64 .f32) (main_arg2 : IVec S_ 32) : IVec S32x4096x4 1 :=
  let main_v0 : FVec F S32x4096x64 .f32 := mulf main_arg0 main_arg0
  let main_cst : FVec F S_ .f32 := constant S_ .f32 0x00000000#32
  let main_v1 : FVec F S32x4096 .f32 := (fun x v => Host.reduceAdd x v reducesTo_S32x4096x64_S32x4096_d2 h_S_) main_v0 main_cst
  let main_v2 : FVec F S32x4096x1 .f32 := broadcastInDim S32x4096x1 ![0, 1] bcast_S32x4096_S32x4096x1_0_1 main_v1
  let main_v3 : FVec F S32x4096x1 .f32 := Host.sqrt main_v2
  let main_cst_0 : FVec F S_ .f32 := constant S_ .f32 0x2B8CBCCC#32
  let main_v4 : FVec F S32x4096x1 .f32 := broadcastInDim S32x4096x1 ![] bcast_S_S32x4096x1 main_cst_0
  let main_v5 : FVec F S32x4096x1 .f32 := maximumf main_v3 main_v4
  let main_v6 : FVec F S32x4096x64 .f32 := broadcastInDim S32x4096x64 ![0, 1, 2] bcast_S32x4096x1_S32x4096x64_0_1_2 main_v5
  let main_v7 : FVec F S32x4096x64 .f32 := Host.divf main_arg0 main_v6
  let main_v8 : FVec F S32x4096x4x64 .f32 := (fun l r => Host.dotGeneral dot_S32x4096x64_S32x64x4x64_S32x4096x4x64_2_1_1_23_0_0 none l r) main_v7 main_arg1
  let main_v9 : FVec F S32x4096x4x64 .f32 := Host.negf main_v8
  let main_v10 : FVec F S32x4096x4x128 .f32 := (fun a b => concatenate S32x4096x4x128 3 [⟨S32x4096x4x64, a⟩, ⟨S32x4096x4x64, b⟩] concatenates_S32x4096x4x64_S32x4096x4x64_S32x4096x4x128_d3) main_v8 main_v9
  let main_cst_1 : FVec F S_ .f32 := constant S_ .f32 0xFF800000#32
  let main_v11 : FVec F S32x4096x4 .f32 := (fun x v => Host.reduce FloatOps.maximumf x v reducesTo_S32x4096x4x128_S32x4096x4_d3 h_S_) main_v10 main_cst_1
  let main_v12 : FVec F S32x4096x4x1 .f32 := broadcastInDim S32x4096x4x1 ![0, 1, 2] bcast_S32x4096x4_S32x4096x4x1_0_1_2 main_v11
  let main_v13 : FVec F S32x4096x4x64 .f32 := broadcastInDim S32x4096x4x64 ![0, 1, 2, 3] bcast_S32x4096x4x1_S32x4096x4x64_0_1_2_3 main_v12
  let main_v14 : IVec S32x4096x4x64 1 := cmpf .oeq main_v8 main_v13
  let main_v15 : IVec S32x4096x4x64 32 := (extui 32 · natLt_1_32) main_v14
  let main_c : IVec S_ 32 := constantI S_ 32 0#32
  let main_v16 : IVec S32x4096x4 32 := (fun x v => Host.reduce IntOp.addi x v reducesTo_S32x4096x4x64_S32x4096x4_d3 h_S_) main_v15 main_c
  let main_v17 : FVec F S32x4096x4x64 .f32 := Host.negf main_v8
  let main_v18 : FVec F S32x4096x4x64 .f32 := broadcastInDim S32x4096x4x64 ![0, 1, 2, 3] bcast_S32x4096x4x1_S32x4096x4x64_0_1_2_3 main_v12
  let main_v19 : IVec S32x4096x4x64 1 := cmpf .oeq main_v17 main_v18
  fn_part1 (F := F) main_v16 main_v19
-- ==== Kernel.lean ====
abbrev S32x4096x64 : Shape := ⟨3, ![32, 4096, 64]⟩
abbrev S32x64x4x64 : Shape := ⟨4, ![32, 64, 4, 64]⟩
abbrev S_ : Shape := ⟨0, ![]⟩
abbrev S32x64x256 : Shape := ⟨3, ![32, 64, 256]⟩
abbrev S32x4x4096 : Shape := ⟨3, ![32, 4, 4096]⟩
abbrev S4x4096x64 : Shape := ⟨3, ![4, 4096, 64]⟩
abbrev S4x64x256 : Shape := ⟨3, ![4, 64, 256]⟩
abbrev S4x4x4096 : Shape := ⟨3, ![4, 4, 4096]⟩
abbrev S1x4096x64 : Shape := ⟨3, ![1, 4096, 64]⟩
abbrev S4096x64 : Shape := ⟨2, ![4096, 64]⟩
abbrev S1x64x256 : Shape := ⟨3, ![1, 64, 256]⟩
abbrev S64x256 : Shape := ⟨2, ![64, 256]⟩
abbrev S4096 : Shape := ⟨1, ![4096]⟩
abbrev S4096x1 : Shape := ⟨2, ![4096, 1]⟩
abbrev S256x4096 : Shape := ⟨2, ![256, 4096]⟩
abbrev S64x4096 : Shape := ⟨2, ![64, 4096]⟩
abbrev S1x4096 : Shape := ⟨2, ![1, 4096]⟩
abbrev S4x4096 : Shape := ⟨2, ![4, 4096]⟩
abbrev S4x256 : Shape := ⟨2, ![4, 256]⟩
abbrev S4x1 : Shape := ⟨2, ![4, 1]⟩
abbrev S1x4x4096 : Shape := ⟨3, ![1, 4, 4096]⟩
abbrev S32x4096x4 : Shape := ⟨3, ![32, 4096, 4]⟩

abbrev nBuf : Space → Nat
  | .hbm => 6
  | .vmem => 6
  | .smem => 0
  | _ => 0

abbrev bufTy : (tb : Table) → Fin (tcTables nBuf tb) → BufTy
  | .hbm, ⟨0, _⟩ => ⟨S32x4096x64, .f32⟩
  | .hbm, ⟨1, _⟩ => ⟨S32x64x4x64, .f32⟩
  | .hbm, ⟨2, _⟩ => ⟨S_, .i32⟩
  | .hbm, ⟨3, _⟩ => ⟨S32x64x256, .f32⟩
  | .hbm, ⟨4, _⟩ => ⟨S32x4x4096, .i32⟩
  | .hbm, ⟨5, _⟩ => ⟨S32x4096x4, .i32⟩
  | .local _ .vmem, ⟨0, _⟩ => ⟨S4x4096x64, .f32⟩
  | .local _ .vmem, ⟨1, _⟩ => ⟨S4x4096x64, .f32⟩
  | .local _ .vmem, ⟨2, _⟩ => ⟨S4x64x256, .f32⟩
  | .local _ .vmem, ⟨3, _⟩ => ⟨S4x64x256, .f32⟩
  | .local _ .vmem, ⟨4, _⟩ => ⟨S4x4x4096, .i32⟩
  | .local _ .vmem, ⟨5, _⟩ => ⟨S4x4x4096, .i32⟩
  | _, _ => ⟨S32x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x4096x64 : Shape := ⟨3, ![32, 4096, 64]⟩
abbrev S32x64x4x64 : Shape := ⟨4, ![32, 64, 4, 64]⟩
abbrev S_ : Shape := ⟨0, ![]⟩
abbrev S32x4096 : Shape := ⟨2, ![32, 4096]⟩
abbrev S32x4096x1 : Shape := ⟨3, ![32, 4096, 1]⟩
abbrev S32x4096x4x64 : Shape := ⟨4, ![32, 4096, 4, 64]⟩
abbrev S32x4096x4x128 : Shape := ⟨4, ![32, 4096, 4, 128]⟩
abbrev S32x4096x4 : Shape := ⟨3, ![32, 4096, 4]⟩
abbrev S4096 : Shape := ⟨1, ![4096]⟩
abbrev S1x4096x1 : Shape := ⟨3, ![1, 4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S32x4096x64, .f32⟩
  | .hbm, ⟨1, _⟩ => ⟨S32x64x4x64, .f32⟩
  | .hbm, ⟨2, _⟩ => ⟨S_, .i32⟩
  | .hbm, ⟨3, _⟩ => ⟨S32x4096x64, .f32⟩
  | .hbm, ⟨4, _⟩ => ⟨S_, .f32⟩
  | .hbm, ⟨5, _⟩ => ⟨S32x4096, .f32⟩
  | .hbm, ⟨6, _⟩ => ⟨S32x4096x1, .f32⟩
  | .hbm, ⟨7, _⟩ => ⟨S32x4096x1, .f32⟩
  | .hbm, ⟨8, _⟩ => ⟨S_, .f32⟩
  | .hbm, ⟨9, _⟩ => ⟨S32x4096x1, .f32⟩
  | .hbm, ⟨10, _⟩ => ⟨S32x4096x1, .f32⟩
  | .hbm, ⟨11, _⟩ => ⟨S32x4096x64, .f32⟩
  | .hbm, ⟨12, _⟩ => ⟨S32x4096x64, .f32⟩
  | .hbm, ⟨13, _⟩ => ⟨S32x4096x4x64, .f32⟩
  | .hbm, ⟨14, _⟩ => ⟨S32x4096x4x64, .f32⟩
  | .hbm, ⟨15, _⟩ => ⟨S32x4096x4x128, .f32⟩
  | .hbm, ⟨16, _⟩ => ⟨S32x4096x4x128, .i32⟩
  | .hbm, ⟨17, _⟩ => ⟨S_, .f32⟩
  | .hbm, ⟨18, _⟩ => ⟨S_, .i32⟩
  | .hbm, ⟨19, _⟩ => ⟨S32x4096x4, .f32⟩
  | .hbm, ⟨20, _⟩ => ⟨S32x4096x4, .i32⟩
  | .hbm, ⟨21, _⟩ => ⟨S4096, .i32⟩
  | .hbm, ⟨22, _⟩ => ⟨S1x4096x1, .i32⟩
  | .hbm, ⟨23, _⟩ => ⟨S_, .i32⟩
  | .hbm, ⟨24, _⟩ => ⟨S32x4096x4, .i32⟩
  | .hbm, ⟨25, _⟩ => ⟨S32x4096x4, .i32⟩
  | .hbm, ⟨26, _⟩ => ⟨S32x4096x4, .i32⟩
  | .hbm, ⟨27, _⟩ => ⟨S32x4096x4, .i32⟩
  | _, _ => ⟨S32x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_v0 : Ref sig .tc := ⟨.hbm, 16, rfl⟩
abbrev main_call1_cst : Ref sig .tc := ⟨.hbm, 17, rfl⟩
abbrev main_call1_c : Ref sig .tc := ⟨.hbm, 18, rfl⟩
abbrev main_call1_v1_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== Proof.Block.lean ====
/-
  What the kernel computes for ONE batch, as one function of the batch's positions and of its random matrix, and the fact
  that the body's four stores (one per batch of a grid step) are that one function of the four batches' loads.

  A grid step treats four batches with the same text. Written out, the four copies fall into different lists of
  intermediate values; every one of them unfolds to `Block.hashes` of the loads, so each later fact is stated and proved
  once, for any batch, and for any of the four rounds (`rowMax`, `rowMin`, `usePos`, `target`, `offset`).
-/
module

public import proofs.«01_k».proof.Proof.Gen.KernelIdeal.Frame

@[expose] public section

set_option maxRecDepth 16384

noncomputable section

namespace Cert.Proof.Block

open Cert.KernelIdeal Cert.KernelIdeal.Gen
open Idealize.ShloMosaic

variable {F : FTy → Type} [FloatOps F]

/-- The scores of one batch: row `k` (round `k / 64`, hyperplane `k % 64`), column `p` holds the product of hyperplane `k`
    with position `p`, the position divided by the larger of its length and the small constant. -/
def scores (x : Vec F S1x4096x64 .f32) (r : Vec F S1x64x256 .f32) : FVec F S256x4096 .f32 :=
  let x' : FVec F S4096x64 .f32 := shapeCast S4096x64 x shapeCasts_S1x4096x64_S4096x64
  let r' : FVec F S64x256 .f32 := shapeCast S64x256 r shapeCasts_S1x64x256_S64x256
  let sq : FVec F S4096 .f32 := multiReduction .add [1] S4096 (mulf x' x') 0x00000000#32 reduces_S4096x64_S4096 (.inl rfl) rfl
  let nrm : FVec F S4096x1 .f32 := maximumf (sqrt (shapeCast S4096x1 sq shapeCasts_S4096_S4096x1)) (broadcast S4096x1 (Scalar.ofBits .f32 0x2B8CBCCC#32))
  matmul dot_S64x256_S4096x64_S256x4096_0_1_1_0_n_n none r' (divf x' (broadcastTo S4096x64 nrm broadcasts_S4096x1_S4096x64)) (constant S256x4096 .f32 0x00000000#32)

/-- The greatest score of each position in one round's 64 rows, -/
def rowMax (v : FVec F S64x4096 .f32) : FVec F S1x4096 .f32 :=
  shapeCast S1x4096 (multiReduction .maximumf [0] S4096 v 0xFF800000#32 reduces_S64x4096_S4096 (.inl rfl) rfl) shapeCasts_S4096_S1x4096

/-- the least, -/
def rowMin (v : FVec F S64x4096 .f32) : FVec F S1x4096 .f32 :=
  shapeCast S1x4096 (multiReduction .minimumf [0] S4096 v 0x7F800000#32 reduces_S64x4096_S4096 (.inl rfl) rfl) shapeCasts_S4096_S1x4096

/-- whether the greatest is at least the negated least, -/
def usePos (v : FVec F S64x4096 .f32) : IVec S1x4096 1 :=
  cmpf .oge (rowMax v) (subf (broadcast S1x4096 (Scalar.ofBits .f32 0x00000000#32)) (rowMin v))

/-- the score looked for (the greatest, or else the least), in all 64 rows, -/
def target (v : FVec F S64x4096 .f32) : FVec F S64x4096 .f32 :=
  broadcastTo S64x4096 (shapeCast S1x4096 (select (usePos v) (rowMax v) (rowMin v)) shapeCasts_S1x4096_S1x4096) broadcasts_S1x4096_S64x4096

/-- and the number its row number is raised by: 0, or else 64. -/
def offset (v : FVec F S64x4096 .f32) : FVec F S1x4096 .f32 :=
  select (usePos v) (broadcast S1x4096 (Scalar.ofBits .f32 0x00000000#32)) (broadcast S1x4096 (Scalar.ofBits .f32 0x42800000#32))

/-- The four rounds' rows of the scores. -/
def round0 (s : FVec F S256x4096 .f32) : FVec F S64x4096 .f32 := extractStridedSlice S64x4096 ![0, 0] s slices_S256x4096_o0_0_S64x4096
def round1 (s : FVec F S256x4096 .f32) : FVec F S64x4096 .f32 := extractStridedSlice S64x4096 ![64, 0] s slices_S256x4096_o64_0_S64x4096
def round2 (s : FVec F S256x4096 .f32) : FVec F S64x4096 .f32 := extractStridedSlice S64x4096 ![128, 0] s slices_S256x4096_o128_0_S64x4096
def round3 (s : FVec F S256x4096 .f32) : FVec F S64x4096 .f32 := extractStridedSlice S64x4096 ![192, 0] s slices_S256x4096_o192_0_S64x4096

/-- The scores looked for, row by row, -/
def targets (s : FVec F S256x4096 .f32) : FVec F S256x4096 .f32 :=
  concatenate S256x4096 0 [⟨S64x4096, target (round0 s)⟩, ⟨S64x4096, target (round1 s)⟩, ⟨S64x4096, target (round2 s)⟩, ⟨S64x4096, target (round3 s)⟩]
    concatenates_S64x4096_S64x4096_S64x4096_S64x4096_S256x4096_d0

/-- the offsets, round by round, -/
def offsets (s : FVec F S256x4096 .f32) : FVec F S4x4096 .f32 :=
  concatenate S4x4096 0 [⟨S1x4096, offset (round0 s)⟩, ⟨S1x4096, offset (round1 s)⟩, ⟨S1x4096, offset (round2 s)⟩, ⟨S1x4096, offset (round3 s)⟩]
    concatenates_S1x4096_S1x4096_S1x4096_S1x4096_S4x4096_d0

/-- and the row's number where its score is the one looked for, 0 elsewhere. -/
def contrib (s : FVec F S256x4096 .f32) : FVec F S256x4096 .f32 :=
  select (cmpf .oeq s (targets s)) (sitofp .f32 (iota .tc S256x4096 32 [0] iota_S256x4096_d0_w32)) (broadcast S256x4096 (Scalar.ofBits .f32 0x00000000#32))

/-- The 0/1 matrix telling which of the 256 rows belong to which round, as words: the row's number divided by 64 (rounding
    down, spelt by a quotient, a remainder and two signs) is the round's. -/
def inRound : IVec S4x256 1 :=
  let col : IVec S4x256 32 := iota .tc S4x256 32 [1] iota_S4x256_d1_w32
  let quo : IVec S4x256 32 := divsi col (broadcast S4x256 64#32)
  let sgn : IVec S4x256 32 := subi (extui 32 (cmpi .sgt col (broadcast S4x256 0#32)) natLt_1_32) (extui 32 (cmpi .slt col (broadcast S4x256 0#32)) natLt_1_32)
  let sgn64 : BitVec 32 := Scalar.subi (Scalar.extui (Scalar.cmpi .sgt 64#32 0#32)) (Scalar.extui (Scalar.cmpi .slt 64#32 0#32))
  let down : IVec S4x256 1 := andi (cmpi .ne sgn (broadcast S4x256 sgn64)) (cmpi .ne (remsi col (broadcast S4x256 64#32)) (broadcast S4x256 0#32))
  cmpi .eq (select down (subi quo (broadcast S4x256 1#32)) quo) (iota .tc S4x256 32 [0] iota_S4x256_d0_w32)

/-- The sum, per round and position, of the contributions of the round's rows. -/
def rowSum (s : FVec F S256x4096 .f32) : FVec F S4x4096 .f32 :=
  matmul dot_S4x256_S256x4096_S4x4096_1_0_0_1_n_n none (sitofp .f32 (extui 32 inRound natLt_1_32)) (contrib s) (constant S4x4096 .f32 0x00000000#32)

/-- The bucket's number as a float (the sum less 64 times the round, raised by the offset), times 4096, plus the position. -/
def hashF (s : FVec F S256x4096 .f32) : FVec F S4x4096 .f32 :=
  let base : FVec F S4x1 .f32 := mulf (sitofp .f32 (iota .tc S4x1 32 [0] iota_S4x1_d0_w32)) (broadcast S4x1 (Scalar.ofBits .f32 0x42800000#32))
  let pos : FVec F S1x4096 .f32 := sitofp .f32 (iota .tc S1x4096 32 [1] iota_S1x4096_d1_w32)
  addf (mulf (addf (subf (rowSum s) (broadcastTo S4x4096 base broadcasts_S4x1_S4x4096)) (offsets s)) (broadcast S4x4096 (Scalar.ofBits .f32 0x45800000#32)))
    (broadcastTo S4x4096 pos broadcasts_S1x4096_S4x4096)

/-- What one batch stores: that float as a word. -/
def hashes (x : Vec F S1x4096x64 .f32) (r : Vec F S1x64x256 .f32) : IVec S1x4x4096 32 :=
  shapeCast S1x4x4096 (fptosi 32 (hashF (scores x r))) shapeCasts_S4x4096_S1x4x4096

/-- The output block after the body is the four batches' `hashes`, each in its own row of the block. -/
theorem out_eq (x0 : Vec F S4x4096x64 .f32) (x1 : Vec F S4x64x256 .f32) :
    out0_2 x0 x1 = View.canon [⟨r0_11, hashes (View.ld x0 r0_9) (View.ld x1 r0_10)⟩, ⟨r0_8, hashes (View.ld x0 r0_6) (View.ld x1 r0_7)⟩,
      ⟨r0_5, hashes (View.ld x0 r0_3) (View.ld x1 r0_4)⟩, ⟨r0_2, hashes (View.ld x0 r0_0) (View.ld x1 r0_1)⟩] := by
  unfold_out out0_2
  rfl

end Cert.Proof.Block

end
-- ==== Proof.KernelRun.lean ====
/-
  What the kernel's program leaves in its result: a grid step treats four batches, so after the eight steps the array the
  steps write holds every batch's hashes, each computed from that batch's positions and that batch's random matrix
  (`whole`); the last host operation exchanges the last two axes. `run` reads that off the program's run.
-/
module

public import proofs.«01_k».proof.Proof.Block
public import Idealize.ShloMosaic.Lib.Pipeline.Value
public import Idealize.ShloMosaic.Lib.Pointwise

@[expose] public section

set_option maxRecDepth 16384

noncomputable section

namespace Cert.Proof.KernelRun

open Cert.KernelIdeal Cert.KernelIdeal.Gen
open Idealize.ShloMosaic Idealize.ShloMosaic.TcCoe Idealize.SL.Sem
open Idealize.ShloMosaic.Pipeline (Dat)
open Cert.Proof.Block

variable {F : FTy → Type} [FloatOps F]

/-- One batch's positions, and one batch's random matrix (its rounds and hyperplanes in one axis of 256). -/
def posOf (X : Vec F S32x4096x64 .f32) (b : Fin 32) : Vec F S1x4096x64 .f32 := fun y => X (ix3 b (y 1) (y 2))
def matOf (R : Vec F S32x64x256 .f32) (b : Fin 32) : Vec F S1x64x256 .f32 := fun y => R (ix3 b (y 1) (y 2))

/-- Every batch's hashes, round by round, position by position. -/
def whole (X : Vec F S32x4096x64 .f32) (R : Vec F S32x64x256 .f32) : IVec S32x4x4096 32 :=
  fun i => hashes (posOf X (i 0)) (matOf R (i 0)) (ix3 0 (i 1) (i 2))

variable (m : (ℓ : Loc nD τ sig) → Buf (Elt F) ℓ) (ρ : Dev nD → PrngReg)

/-- At grid step `t` every window is at block `t` along the batches, and at block 0 along the other axes. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- The batch that step `t` treats in its row `k`. -/
def batch (t : Fin cfg0.N) (k : ℕ) (hk : k < 4) : Fin 32 := ⟨t.val * 4 + k, by have := t.isLt; have : cfg0.N = 8 := N_0; omega⟩

/-- The load of row `k` of the positions' block is that batch's positions, -/
theorem ld_pos (c : Dev nD) (t : Fin cfg0.N) (k : ℕ) (hk : k < 4) (inb : ∀ a, (![k, 0, 0] : Fin 3 → ℕ) a + S1x4096x64.size a ≤ S4x4096x64.size a) :
    View.ld (iblk m c 0 t) (Rect.unit (s := S4x4096x64) ![k, 0, 0] S1x4096x64.size inb) = posOf (V m c main_arg0) (batch t k hk) := by
  funext y
  show V m c main_arg0 ((win0_0.rect t).emb _) = V m c main_arg0 _
  congr 1
  obtain ⟨h0, h1, h2⟩ := idx0 t
  have hy0 : (y 0 : ℕ) = 0 := by have : (y 0 : ℕ) < 1 := (y 0).isLt; omega
  funext a; apply Fin.ext
  rw [win0_0.rect_emb_val]
  match a with
  | ⟨0, _⟩ => show win0_0.index t (0 : Fin 3) * 4 + (k + 1 * (y 0 : ℕ)) = t.val * 4 + k; rw [h0, hy0]; omega
  | ⟨1, _⟩ => show win0_0.index t (1 : Fin 3) * 4096 + (0 + 1 * (y 1 : ℕ)) = (y 1 : ℕ); rw [h1]; omega
  | ⟨2, _⟩ => show win0_0.index t (2 : Fin 3) * 64 + (0 + 1 * (y 2 : ℕ)) = (y 2 : ℕ); rw [h2]; omega

/-- and the load of row `k` of the matrices' block is that batch's matrix. -/
theorem ld_mat (c : Dev nD) (t : Fin cfg0.N) (k : ℕ) (hk : k < 4) (inb : ∀ a, (![k, 0, 0] : Fin 3 → ℕ) a + S1x64x256.size a ≤ S4x64x256.size a) :
    View.ld (iblk m c 1 t) (Rect.unit (s := S4x64x256) ![k, 0, 0] S1x64x256.size inb) = matOf (V m c main_v0) (batch t k hk) := by
  funext y
  show V m c main_v0 ((win0_1.rect t).emb _) = V m c main_v0 _
  congr 1
  obtain ⟨h0, h1, h2⟩ := idx1 t
  have hy0 : (y 0 : ℕ) = 0 := by have : (y 0 : ℕ) < 1 := (y 0).isLt; omega
  funext a; apply Fin.ext
  rw [win0_1.rect_emb_val]
  match a with
  | ⟨0, _⟩ => show win0_1.index t (0 : Fin 3) * 4 + (k + 1 * (y 0 : ℕ)) = t.val * 4 + k; rw [h0, hy0]; omega
  | ⟨1, _⟩ => show win0_1.index t (1 : Fin 3) * 64 + (0 + 1 * (y 1 : ℕ)) = (y 1 : ℕ); rw [h1]; omega
  | ⟨2, _⟩ => show win0_1.index t (2 : Fin 3) * 256 + (0 + 1 * (y 2 : ℕ)) = (y 2 : ℕ); rw [h2]; omega

/-- Row `k` of the output block at step `t` is that batch's row of `whole`. -/
theorem row_eq (X : Vec F S32x4096x64 .f32) (R : Vec F S32x64x256 .f32) (t : Fin cfg0.N) (k : ℕ) (hk : k < 4)
    (inb : ∀ a, (![k, 0, 0] : Fin 3 → ℕ) a + S1x4x4096.size a ≤ S4x4x4096.size a) (x : S1x4x4096.Idx) :
    hashes (posOf X (batch t k hk)) (matOf R (batch t k hk)) x
      = whole X R ((win0_2.rect t).emb ((Rect.unit (s := S4x4x4096) ![k, 0, 0] S1x4x4096.size inb).emb x)) := by
  obtain ⟨h0, h1, h2⟩ := idx2 t
  have hx0 : (x 0 : ℕ) = 0 := by have : (x 0 : ℕ) < 1 := (x 0).isLt; omega
  have e : (win0_2.rect t).emb ((Rect.unit (s := S4x4x4096) ![k, 0, 0] S1x4x4096.size inb).emb x) = ix3 (batch t k hk) (x 1) (x 2) := by
    funext a; apply Fin.ext
    rw [win0_2.rect_emb_val]
    match a with
    | ⟨0, _⟩ => show win0_2.index t (0 : Fin 3) * 4 + (k + 1 * (x 0 : ℕ)) = t.val * 4 + k; rw [h0, hx0]; omega
    | ⟨1, _⟩ => show win0_2.index t (1 : Fin 3) * 4 + (0 + 1 * (x 1 : ℕ)) = (x 1 : ℕ); rw [h1]; omega
    | ⟨2, _⟩ => show win0_2.index t (2 : Fin 3) * 4096 + (0 + 1 * (x 2 : ℕ)) = (x 2 : ℕ); rw [h2]; omega
  have ex : x = ix3 0 (x 1) (x 2) := by
    funext a
    match a with
    | ⟨0, _⟩ => exact Fin.ext hx0
    | ⟨1, _⟩ => rfl
    | ⟨2, _⟩ => rfl
  rw [e]
  exact congrArg _ ex

/-- What step `t` writes back is its block of `whole`, -/
theorem flushed_eq (c : Dev nD) (t : Fin cfg0.N) :
    (dats m 0 c).flushed 2 t = ((cfg0.win 2).blk t).view.read (Elt F) (whole (V m c main_arg0) (V m c main_v0)) := by
  show (cfg0.win 2).cut (grid0.coords t) ((dats m 0 c).after 2 t) = _
  rw [after0_2, out_eq, ld_pos m c t 3 (by omega), ld_pos m c t 2 (by omega), ld_pos m c t 1 (by omega), ld_pos m c t 0 (by omega),
    ld_mat m c t 3 (by omega), ld_mat m c t 2 (by omega), ld_mat m c t 1 (by omega), ld_mat m c t 0 (by omega)]
  funext y
  refine (View.canon_apply_of_pieces (fun y => whole (V m c main_arg0) (V m c main_v0) ((win0_2.rect t).emb y)) _ ?_ y (cover0_2 _ _ _ _ y)).trans rfl
  intro p hp x
  simp only [List.mem_cons, List.mem_nil_iff, or_false] at hp
  rcases hp with rfl | rfl | rfl | rfl
  · exact row_eq _ _ t 3 _ inb_S4x4x4096_S1x4x4096_3_0_0 x
  · exact row_eq _ _ t 2 _ inb_S4x4x4096_S1x4x4096_2_0_0 x
  · exact row_eq _ _ t 1 _ inb_S4x4x4096_S1x4x4096_1_0_0 x
  · exact row_eq _ _ t 0 _ inb_S4x4x4096_S1x4x4096_0_0_0 x

/-- an index of the array is in step `t`'s block when its batch is one of the step's four, -/
theorem mem_blk (t : Fin cfg0.N) (i : S32x4x4096.Idx) :
    i ∈ ((cfg0.win 2).blk t).view.set ↔ t.val * 4 ≤ (i 0 : ℕ) ∧ (i 0 : ℕ) < t.val * 4 + 4 := by
  show i ∈ ((View.whole main_v1).slice (win0_2.rect t)).set ↔ _
  rw [View.set_slice_whole, Rect.mem_set_unit]
  obtain ⟨h0, h1, h2⟩ := idx2 t
  have i1 : (i 1 : ℕ) < 4 := (i 1).isLt
  have i2 : (i 2 : ℕ) < 4096 := (i 2).isLt
  refine ⟨fun h => ?_, fun h a => ?_⟩
  · have : win0_2.index t (0 : Fin 3) * 4 ≤ (i 0 : ℕ) ∧ (i 0 : ℕ) < win0_2.index t (0 : Fin 3) * 4 + 4 := h 0
    rw [h0] at this; exact this
  · match a with
    | ⟨0, _⟩ => show win0_2.index t (0 : Fin 3) * 4 ≤ (i 0 : ℕ) ∧ (i 0 : ℕ) < win0_2.index t (0 : Fin 3) * 4 + 4; rw [h0]; exact h
    | ⟨1, _⟩ => show win0_2.index t (1 : Fin 3) * 4 ≤ (i 1 : ℕ) ∧ (i 1 : ℕ) < win0_2.index t (1 : Fin 3) * 4 + 4; rw [h1]; omega
    | ⟨2, _⟩ => show win0_2.index t (2 : Fin 3) * 4096 ≤ (i 2 : ℕ) ∧ (i 2 : ℕ) < win0_2.index t (2 : Fin 3) * 4096 + 4096; rw [h2]; omega

/-- and the eight steps' blocks cover the array, -/
theorem cover (i : S32x4x4096.Idx) : ∃ t : Fin cfg0.N, (cfg0.win 2).flush t = true ∧ i ∈ ((cfg0.win 2).blk t).view.set := by
  have hi : (i 0 : ℕ) < 32 := (i 0).isLt
  have hN : cfg0.N = 8 := N_0
  refine ⟨⟨(i 0 : ℕ) / 4, by omega⟩, ?_, ?_⟩
  · exact (by decide +kernel : ∀ t : Fin grid0.N, win0_2.flush t = true) _
  · rw [mem_blk]
    dsimp only
    omega

/-- so the array ends holding `whole`. -/
theorem final (c : Dev nD) : (dats m 0 c).arrAt 2 cfg0.N = whole (V m c main_arg0) (V m c main_v0) :=
  (dats m 0 c).arrAt_eq_of_cover 2 _ (fun t _ => flushed_eq m c t) cover

/-- What the kernel's program returns: `whole` of the positions and of the matrices with rounds and hyperplanes in one axis,
    its last two axes exchanged. -/
def answer (x : Vec F S32x4096x64 .f32) (r : Vec F S32x64x4x64 .f32) : IVec S32x4096x4 32 :=
  transpose S32x4096x4 [0, 2, 1] (whole x (shapeCast S32x64x256 r shapeCasts_S32x64x4x64_S32x64x256)) transposes_S32x4x4096_S32x4096x4_0_2_1

/-- The matrices as the grid finds them: the argument reshaped. -/
theorem V_v0 (c : Dev nD) : V m c main_v0 = shapeCast S32x64x256 (m ((c : Thread nD τ).loc main_arg1)) shapeCasts_S32x64x4x64_S32x64x256 := by
  show StableHlo.after hostOps0 (fun b => m (c, b)) (main_v0 : DevRef τ sig) = _
  after_results
  rfl

/-- The program's run: the result buffer holds `answer` of the arguments, which are unchanged. -/
theorem run : θ_run defs (onTc (τ := τ) (main (F := F))) ⟨m, fun _ => 0, ρ⟩ fun r => ∀ c : Dev nD,
      r.2.mem ((c : Thread nD τ).loc main_v2) = answer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨by
      rw [(h c).2 main_v2 (Pipeline.mem_restRefs_of main_v2 (by decide) (by decide))]
      unfold Pipeline.afterTail₀
      have e := Pipeline.withArrays_arr spec0 launch0.win.arr_inj c (V0 m c) (fun w => (dats m 0 c).arrAt w cfg0.N) 2
      show StableHlo.after hostOps1 _ (main_v2 : DevRef τ sig) = _
      after_results
      rw [answer, ← V_v0, ← V_main_arg0 m c, ← final]
      exact congrArg (fun v => transpose S32x4096x4 [0, 2, 1] v transposes_S32x4x4096_S32x4096x4_0_2_1) e,
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)

end Cert.Proof.KernelRun

end
-- ==== Proof.RefRun.lean ====
/-
  The run of the reference: its @main is a straight line of host operations (the bodies of the two functions it calls, the
  vector's length and the arg-max, standing in line), so every execution terminates with each buffer at the operations'
  results folded over the launch contents.

  `answer` is that fold at the result buffer, as a function of the two float arguments: `scores` (the normalized positions
  times the hyperplanes), `both` (the scores and their negations side by side), the arg-max of those, and last the bucket
  times 4096 plus the position. The argument buffers keep what they held, and the program has no semaphore, so every counter
  ends at zero.
-/
module

public import proofs.«01_k».proof.Proof.Gen.ReferenceIdeal
public import Idealize.ShloMosaic.Lib.StableHlo.Run
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- @main's operations, in order. -/
abbrev ops : List (HloOp τ sig (Elt F)) :=
  [ binary main_arg0 main_arg0 main_call0_v0 mulf,
    nullary main_call0_cst (constant S_ .f32 0x00000000#32),
    binary main_call0_v0 main_call0_cst main_call0_v1 (fun x v => Host.reduceAdd x v reducesTo_S32x4096x64_S32x4096_d2 h_S_),
    unary main_call0_v1 main_call0_v2 (broadcastInDim S32x4096x1 ![0, 1] bcast_S32x4096_S32x4096x1_0_1),
    unary main_call0_v2 main_v0 Host.sqrt,
    nullary main_cst (constant S_ .f32 0x2B8CBCCC#32),
    unary main_cst main_v1 (broadcastInDim S32x4096x1 ![] bcast_S_S32x4096x1),
    binary main_v0 main_v1 main_v2 maximumf,
    unary main_v2 main_v3 (broadcastInDim S32x4096x64 ![0, 1, 2] bcast_S32x4096x1_S32x4096x64_0_1_2),
    binary main_arg0 main_v3 main_v4 Host.divf,
    binary main_v4 main_arg1 main_v5 (fun l r => Host.dotGeneral dot_S32x4096x64_S32x64x4x64_S32x4096x4x64_2_1_1_23_0_0 none l r),
    unary main_v5 main_v6 Host.negf,
    binary main_v5 main_v6 main_v7 (fun a b => concatenate S32x4096x4x128 3 [⟨S32x4096x4x64, a⟩, ⟨S32x4096x4x64, b⟩] concatenates_S32x4096x4x64_S32x4096x4x64_S32x4096x4x128_d3),
    nullary main_call1_v0 (iotaInDim S32x4096x4x128 32 3),
    nullary main_call1_cst (constant S_ .f32 0xFF800000#32),
    nullary main_call1_c (constantI S_ 32 0#32),
    quaternary main_v7 main_call1_v0 main_call1_cst main_call1_c main_call1_v1_0
      (fun x y u v j => (Host.argReduce reducer_argmax_f32_i32 x y u v reducesTo_S32x4096x4x128_S32x4096x4_d3 h_S_ j).1),
    quaternary main_v7 main_call1_v0 main_call1_cst main_call1_c main_v8
      (fun x y u v j => (Host.argReduce reducer_argmax_f32_i32 x y u v reducesTo_S32x4096x4x128_S32x4096x4_d3 h_S_ j).2),
    nullary main_v9 (iotaInDim S4096 32 0),
    unary main_v9 main_v10 (broadcastInDim S1x4096x1 ![1] bcast_S4096_S1x4096x1_1),
    nullary main_c (constantI S_ 32 4096#32),
    unary main_c main_v11 (broadcastInDim S32x4096x4 ![] bcast_S_S32x4096x4),
    binary main_v8 main_v11 main_v12 muli,
    unary main_v10 main_v13 (broadcastInDim S32x4096x4 ![0, 1, 2] bcast_S1x4096x1_S32x4096x4_0_1_2),
    binary main_v12 main_v13 main_v14 addi ]

/-- @main is that straight line. -/
theorem main_eq (c : Dev nD) : main (F := F) c = seq ops := rfl

/-- The reference's scores: every position, divided by the larger of its length and the small constant, times every
    hyperplane of every round. -/
def scores (x : FVec F S32x4096x64 .f32) (r : FVec F S32x64x4x64 .f32) : FVec F S32x4096x4x64 .f32 :=
  let sq : FVec F S32x4096 .f32 := Host.reduceAdd (mulf x x) (constant S_ .f32 0x00000000#32) reducesTo_S32x4096x64_S32x4096_d2 h_S_
  let len : FVec F S32x4096x1 .f32 := Host.sqrt (broadcastInDim S32x4096x1 ![0, 1] bcast_S32x4096_S32x4096x1_0_1 sq)
  let nrm : FVec F S32x4096x1 .f32 := maximumf len (broadcastInDim S32x4096x1 ![] bcast_S_S32x4096x1 (constant S_ .f32 0x2B8CBCCC#32))
  Host.dotGeneral dot_S32x4096x64_S32x64x4x64_S32x4096x4x64_2_1_1_23_0_0 none
    (Host.divf x (broadcastInDim S32x4096x64 ![0, 1, 2] bcast_S32x4096x1_S32x4096x64_0_1_2 nrm)) r

/-- The scores and then their negations, along the last axis. -/
def both (s : FVec F S32x4096x4x64 .f32) : FVec F S32x4096x4x128 .f32 :=
  concatenate S32x4096x4x128 3 [⟨S32x4096x4x64, s⟩, ⟨S32x4096x4x64, Host.negf s⟩] concatenates_S32x4096x4x64_S32x4096x4x64_S32x4096x4x128_d3

/-- The bucket of every position in every round: where along the last axis its greatest entry first stands. -/
def bucket (w : FVec F S32x4096x4x128 .f32) : IVec S32x4096x4 32 := fun j =>
  (Host.argReduce reducer_argmax_f32_i32 w (iotaInDim S32x4096x4x128 32 3) (constant S_ .f32 0xFF800000#32) (constantI S_ 32 0#32)
    reducesTo_S32x4096x4x128_S32x4096x4_d3 h_S_ j).2

/-- The bucket times 4096, plus the position. -/
def hash (b : IVec S32x4096x4 32) : IVec S32x4096x4 32 :=
  addi (muli b (broadcastInDim S32x4096x4 ![] bcast_S_S32x4096x4 (constantI S_ 32 4096#32)))
    (broadcastInDim S32x4096x4 ![0, 1, 2] bcast_S1x4096x1_S32x4096x4_0_1_2 (broadcastInDim S1x4096x1 ![1] bcast_S4096_S1x4096x1_1 (iotaInDim S4096 32 0)))

/-- What the reference returns. -/
def answer (x : FVec F S32x4096x64 .f32) (r : FVec F S32x64x4x64 .f32) : IVec S32x4096x4 32 :=
  hash (bucket (both (scores x r)))

/-- The fold of the operations at the result buffer is `answer` of the arguments, -/
theorem out_eq (V : Valuation τ sig (Elt F)) :
    after ops V (main_v14 : DevRef τ sig) = answer (V (main_arg0 : DevRef τ sig)) (V (main_arg1 : DevRef τ sig)) := by
  after_results
  rfl

/-- and no operation writes an argument buffer. -/
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

/-- Nothing is scoped on this signature, -/
theorem scopedRefs_eq : (Finset.univ.filter fun b : Ref sig .tc => b.isScoped) = ∅ := by decide
theorem scopedSems_eq : (Finset.univ.filter fun sm : SemLoc sig => sm.isScoped .tc) = ∅ := by decide

/-- and every operation touches TensorCore references only. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., unary_bufs_sub ..,
    binary_bufs_sub .., nullary_bufs_sub .., nullary_bufs_sub .., nullary_bufs_sub .., quaternary_bufs_sub ..,
    quaternary_bufs_sub .., nullary_bufs_sub .., unary_bufs_sub .., nullary_bufs_sub .., unary_bufs_sub ..,
    binary_bufs_sub .., unary_bufs_sub .., binary_bufs_sub ..⟩

/-- From any memory with zero counters every execution of the reference terminates with its result buffer at `answer` of the
    arguments and the argument buffers unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v14) = answer (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v14).trans (out_eq _), (h c main_arg0).trans (arg0_eq _), (h c main_arg1).trans (arg1_eq _),
      (h c main_arg2).trans (arg2_eq _)⟩)
    (run_seq scopedRefs_eq scopedSems_eq defs main (fun _ => ops) main_eq (fun _ => ops_sub) m ρ)

/-- The reference's frame: it terminates, its arguments end unchanged, and every semaphore counter is zero (it has none). -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run_main m ρ)

end Cert.Proof.Ref

end
-- ==== Proof.Pick.lean ====
/-
  Picking a bucket among 64 scores and their 64 negations: mathematics of the extended reals only, no program in it.

  `pair v` lists the 64 scores `v` and then their negations. The kernel compares the greatest score with the negated least:
  it looks for the greatest score (`aim`) and adds nothing to its position (`off`), or else looks for the least score and adds
  64. Where ONE position of the 64 holds the score looked for (`OneHit`), that position plus `off` is the first place of the
  greatest entry of `pair v` (`pair_le`, `pair_lt`), and a left-to-right scan that keeps the greater entry ends at it
  (`scan_eq`). `exists_oneHit` gets that one position from the two counts the precondition states.
-/
module

public import Idealize.ShloMosaic.PureOps.Ideal

@[expose] public section

noncomputable section

namespace Cert.Proof.Pick

/-- The greatest and the least of 64 scores. -/
def top (v : Fin 64 → EReal) : EReal := Finset.univ.fold max ⊥ v
def bot (v : Fin 64 → EReal) : EReal := Finset.univ.fold min ⊤ v

/-- Every score is at most the greatest and at least the least, -/
theorem le_top (v : Fin 64 → EReal) (i : Fin 64) : v i ≤ top v :=
  (Finset.le_fold_max _).2 (.inr ⟨i, Finset.mem_univ i, le_rfl⟩)
theorem bot_le (v : Fin 64 → EReal) (i : Fin 64) : bot v ≤ v i :=
  (Finset.fold_min_le _).2 (.inr ⟨i, Finset.mem_univ i, le_rfl⟩)

/-- and a bound of every score bounds the greatest, or the least. -/
theorem top_le {v : Fin 64 → EReal} {b : EReal} (h : ∀ i, v i ≤ b) : top v ≤ b :=
  (Finset.fold_max_le _).2 ⟨OrderBot.bot_le b, fun i _ => h i⟩
theorem le_bot {v : Fin 64 → EReal} {b : EReal} (h : ∀ i, b ≤ v i) : b ≤ bot v :=
  (Finset.le_fold_min _).2 ⟨OrderTop.le_top b, fun i _ => h i⟩

/-- Some score is the greatest, and some score is the least. -/
theorem exists_top (v : Fin 64 → EReal) : ∃ i, v i = top v := by
  obtain ⟨i, -, h⟩ := Finset.exists_max_image Finset.univ v ⟨0, Finset.mem_univ 0⟩
  exact ⟨i, le_antisymm (le_top v i) (top_le fun k => h k (Finset.mem_univ k))⟩
theorem exists_bot (v : Fin 64 → EReal) : ∃ i, v i = bot v := by
  obtain ⟨i, -, h⟩ := Finset.exists_min_image Finset.univ v ⟨0, Finset.mem_univ 0⟩
  exact ⟨i, le_antisymm (le_bot fun k => h k (Finset.mem_univ k)) (bot_le v i)⟩

/-- What the kernel looks for among the scores, -/
def aim (v : Fin 64 → EReal) : EReal := if -(bot v) ≤ top v then top v else bot v
/-- and what it adds to the position found. -/
def off (v : Fin 64 → EReal) : ℕ := if -(bot v) ≤ top v then 0 else 64

theorem off_le (v : Fin 64 → EReal) : off v ≤ 64 := by
  unfold off; split <;> omega

/-- The score looked for stands at position `i` and nowhere else. -/
def OneHit (v : Fin 64 → EReal) (i : Fin 64) : Prop := ∀ k, v k = aim v ↔ k = i

/-- The scores, then their negations. -/
def pair (v : Fin 64 → EReal) (k : Fin 128) : EReal :=
  if h : k.val < 64 then v ⟨k.val, h⟩ else -(v ⟨k.val - 64, by omega⟩)

/-- The place in `pair v` that position `i` leads to. -/
def place (v : Fin 64 → EReal) (i : Fin 64) : Fin 128 := ⟨i.val + off v, by have := off_le v; omega⟩

/-- With one hit, `pair v` is nowhere greater than at its place, -/
theorem pair_le {v : Fin 64 → EReal} {i : Fin 64} (h : OneHit v i) (k : Fin 128) : pair v k ≤ pair v (place v i) := by
  have hi := (h i).2 rfl
  by_cases hp : -(bot v) ≤ top v
  · have e : pair v (place v i) = top v := by
      simp only [aim, if_pos hp] at hi
      simp [pair, place, off, if_pos hp, hi]
    rw [e]; unfold pair; split
    · exact le_top v _
    · exact (EReal.neg_le_neg_iff.2 (bot_le v _)).trans hp
  · have e : pair v (place v i) = -(bot v) := by
      simp only [aim, if_neg hp] at hi
      simp [pair, place, off, if_neg hp, hi]
    rw [e]; unfold pair; split
    · exact (le_top v _).trans (not_le.1 hp).le
    · exact EReal.neg_le_neg_iff.2 (bot_le v _)

/-- and is smaller at every place before it. -/
theorem pair_lt {v : Fin 64 → EReal} {i : Fin 64} (h : OneHit v i) (k : Fin 128) (hk : k < place v i) :
    pair v k < pair v (place v i) := by
  have hi := (h i).2 rfl
  have hk' : k.val < i.val + off v := hk
  refine lt_of_le_of_ne (pair_le h k) ?_
  by_cases hp : -(bot v) ≤ top v
  · have e : pair v (place v i) = aim v := by simp [pair, place, off, if_pos hp, hi]
    simp only [off, if_pos hp] at hk'
    have h64 : k.val < 64 := by omega
    rw [e, pair, dif_pos h64]
    intro hc
    have := congrArg Fin.val ((h ⟨k.val, h64⟩).1 hc)
    simp only at this; omega
  · have e : pair v (place v i) = -(aim v) := by simp [pair, place, off, if_neg hp, hi]
    have ea : aim v = bot v := by simp [aim, if_neg hp]
    simp only [off, if_neg hp] at hk'
    rw [e, pair]; split
    · rw [ea]; exact ((le_top v _).trans_lt (not_le.1 hp)).ne
    · intro hc
      have := congrArg Fin.val ((h _).1 (neg_injective hc))
      simp only at this; omega

/-- The greatest entry of `pair v` is the greater of the greatest score and the negated least. -/
theorem fold_pair (v : Fin 64 → EReal) : Finset.univ.fold max ⊥ (pair v) = max (top v) (-(bot v)) := by
  refine le_antisymm ((Finset.fold_max_le _).2 ⟨OrderBot.bot_le _, fun k _ => ?_⟩) (max_le ?_ ?_)
  · unfold pair; split
    · exact le_max_of_le_left (le_top v _)
    · exact le_max_of_le_right (EReal.neg_le_neg_iff.2 (bot_le v _))
  · obtain ⟨i, hi⟩ := exists_top v
    refine (Finset.le_fold_max _).2 (.inr ⟨⟨i.val, by omega⟩, Finset.mem_univ _, ?_⟩)
    simp [pair, hi]
  · obtain ⟨i, hi⟩ := exists_bot v
    refine (Finset.le_fold_max _).2 (.inr ⟨⟨i.val + 64, by omega⟩, Finset.mem_univ _, ?_⟩)
    simp [pair, hi]

/-- Where the greatest entry of `pair v` is a score at one position, or else no score and a negated score at one position,
    the score looked for stands at one position. -/
theorem exists_oneHit {v : Fin 64 → EReal}
    (h : (Finset.univ.filter fun i => v i = Finset.univ.fold max ⊥ (pair v)).card = 1
      ∨ (Finset.univ.filter fun i => v i = Finset.univ.fold max ⊥ (pair v)).card = 0
        ∧ (Finset.univ.filter fun i => -(v i) = Finset.univ.fold max ⊥ (pair v)).card = 1) : ∃ i, OneHit v i := by
  rw [fold_pair] at h
  have key : ∀ P : Fin 64 → Prop, ∀ [DecidablePred P], (Finset.univ.filter P).card = 1 → (∀ k, v k = aim v ↔ P k) → ∃ i, OneHit v i := by
    intro P _ hc hP
    obtain ⟨i, hi⟩ := Finset.card_eq_one.1 hc
    refine ⟨i, fun k => (hP k).trans ?_⟩
    have := Finset.ext_iff.1 hi k
    simpa using this
  by_cases hp : -(bot v) ≤ top v
  · rw [max_eq_left hp] at h
    rcases h with h | ⟨h, -⟩
    · exact key _ h fun k => by simp [aim, if_pos hp]
    · obtain ⟨i, hi⟩ := exists_top v
      exact absurd hi ((Finset.filter_eq_empty_iff.1 (Finset.card_eq_zero.1 h)) (Finset.mem_univ i))
  · rw [max_eq_right (not_le.1 hp).le] at h
    rcases h with h | ⟨-, h⟩
    · obtain ⟨i, hi⟩ := Finset.card_eq_one.1 h
      have : v i = -(bot v) := by simpa using (Finset.ext_iff.1 hi i).2 (Finset.mem_singleton_self i)
      exact absurd ((le_top v i).trans_lt (not_le.1 hp)) (by rw [this]; exact lt_irrefl _)
    · exact key _ h fun k => by simp [aim, if_neg hp]

/-- One step of a scan that keeps the greater entry and, of equal entries, the smaller number. -/
def step (a b : EReal × BitVec 32) : EReal × BitVec 32 :=
  (max a.1 b.1, if b.1 < a.1 ∨ (a.1 = b.1 ∧ a.2.slt b.2) then a.2 else b.2)

/-- A step to a greater entry takes it. -/
theorem step_of_lt {a b : EReal × BitVec 32} (h : a.1 < b.1) : step a b = b := by
  unfold step
  rw [max_eq_right h.le, if_neg]
  rintro (h' | ⟨h', -⟩)
  · exact lt_asymm h' h
  · exact h.ne h'

/-- A scan over entries smaller than `T`, from one smaller than `T`, stays smaller than `T`. -/
theorem scan_lt {T : EReal} (l : List (EReal × BitVec 32)) (hl : ∀ b ∈ l, b.1 < T) (a : EReal × BitVec 32) (ha : a.1 < T) :
    (l.foldl step a).1 < T := by
  induction l generalizing a with
  | nil => exact ha
  | cons b l ih =>
    exact ih (fun c hc => hl c (List.mem_cons_of_mem _ hc)) _ (max_lt ha (hl b List.mem_cons_self))

/-- A scan keeps an entry that no later one exceeds, if the later numbers are greater. -/
theorem scan_keep (l : List (EReal × BitVec 32)) (a : EReal × BitVec 32) (hl : ∀ b ∈ l, b.1 ≤ a.1 ∧ a.2.slt b.2) :
    l.foldl step a = a := by
  induction l with
  | nil => rfl
  | cons b l ih =>
    have hb := hl b List.mem_cons_self
    have e : step a b = a := by
      unfold step
      rw [max_eq_left hb.1, if_pos]
      rcases lt_or_eq_of_le hb.1 with h | h
      · exact .inl h
      · exact .inr ⟨h.symm, hb.2⟩
    rw [List.foldl_cons, e]
    exact ih fun c hc => hl c (List.mem_cons_of_mem _ hc)

/-- Two numbers below 128 compare as signed words as they do as numbers. -/
theorem slt_of_lt {a b : ℕ} (h : a < b) (hb : b < 128) : (BitVec.ofNat 32 a).slt (BitVec.ofNat 32 b) = true := by
  rw [BitVec.slt_iff_toInt_lt, BitVec.toInt_eq_toNat_of_lt, BitVec.toInt_eq_toNat_of_lt] <;> simp <;> omega

/-- The scan over `w`'s 128 entries, each with its number, ends at the first place of the greatest one. -/
theorem scan_eq (w : Fin 128 → EReal) (k : Fin 128) (hle : ∀ n, w n ≤ w k) (hlt : ∀ n, n < k → w n < w k) :
    ((List.finRange 128).map fun n => (w n, BitVec.ofNat 32 n.val)).foldl step (⊥, 0#32) = (w k, BitVec.ofNat 32 k.val) := by
  have hlen : k.val < (List.finRange 128).length := by simp
  have hsplit : List.finRange 128 = (List.finRange 128).take k.val ++ k :: (List.finRange 128).drop (k.val + 1) := by
    conv_lhs => rw [← List.take_append_drop k.val (List.finRange 128), List.drop_eq_getElem_cons hlen]
    simp
  have hpre : ∀ n ∈ (List.finRange 128).take k.val, n < k := by
    intro n hn
    obtain ⟨j, hj, rfl⟩ := List.mem_take_iff_getElem.1 hn
    simp only [List.getElem_finRange]
    exact Fin.lt_def.2 (by simp at hj ⊢; omega)
  have hpost : ∀ n ∈ (List.finRange 128).drop (k.val + 1), k < n := by
    intro n hn
    obtain ⟨j, hj, rfl⟩ := List.mem_drop_iff_getElem.1 hn
    simp only [List.getElem_finRange]
    exact Fin.lt_def.2 (by simp; omega)
  rw [hsplit, List.map_append, List.map_cons, List.foldl_append, List.foldl_cons]
  have hat : step (((List.finRange 128).take k.val |>.map fun n => (w n, BitVec.ofNat 32 n.val)).foldl step (⊥, 0#32))
      (w k, BitVec.ofNat 32 k.val) = (w k, BitVec.ofNat 32 k.val) := by
    by_cases hT : w k = ⊥
    · have hk : k.val = 0 := by
        by_contra h0
        have : (⟨0, by omega⟩ : Fin 128) < k := Fin.lt_def.2 (by simp; omega)
        exact absurd (hlt _ this) (by rw [hT]; exact not_lt_bot)
      simp [hk, hT, step]
    · have hs := scan_lt (T := w k) (((List.finRange 128).take k.val).map fun n => (w n, BitVec.ofNat 32 n.val))
        (fun b hb => by
          obtain ⟨n, hn, rfl⟩ := List.mem_map.1 hb
          exact hlt n (hpre n hn)) (⊥, 0#32) (bot_lt_iff_ne_bot.2 hT)
      exact step_of_lt hs
  rw [hat]
  refine scan_keep _ _ fun b hb => ?_
  obtain ⟨n, hn, rfl⟩ := List.mem_map.1 hb
  exact ⟨hle n, slt_of_lt (hpost n hn) n.isLt⟩

end Cert.Proof.Pick

end
-- ==== Proof.Consts.lean ====
/-
  The float constants of the three programs, as extended reals.
-/
module

public import Idealize.ShloMosaic.PureOps.Ideal

@[expose] public section

noncomputable section

namespace Cert.Proof.Consts

open Idealize.ShloMosaic

/-- The float constants: 64, -/
theorem ofBits_64 : Ideal.ofBits .f32 0x42800000#32 = ((64 : ℝ) : EReal) := by
  simp [Ideal.ofBits, Ideal.ieee, -EReal.coe_mul]; norm_num
/-- 4096, -/
theorem ofBits_4096 : Ideal.ofBits .f32 0x45800000#32 = ((4096 : ℝ) : EReal) := by
  simp [Ideal.ofBits, Ideal.ieee, -EReal.coe_mul]; norm_num
/-- and the two infinities. -/
theorem ofBits_bot : Ideal.ofBits .f32 0xFF800000#32 = ⊥ := by
  simp [Ideal.ofBits, Ideal.ieee]
theorem ofBits_top : Ideal.ofBits .f32 0x7F800000#32 = ⊤ := by
  simp [Ideal.ofBits, Ideal.ieee]

end Cert.Proof.Consts

end
-- ==== Proof.BlockAt.lean ====
/-
  What one batch stores, read at one round and one position, over the extended reals: where the score looked for stands at
  one position `i` of the round's 64 (`Pick.OneHit`), the stored word is `(i + off) * 4096 + p` (`hashes_at`), the place of
  `i` among the scores and their negations, times 4096, plus the position.
-/
module

public import proofs.«01_k».proof.Proof.Block
public import proofs.«01_k».proof.Proof.Pick
public import proofs.«01_k».proof.Proof.Consts
public import Idealize.ShloMosaic.Lib.Pointwise

@[expose] public section

set_option maxRecDepth 16384

noncomputable section

namespace Cert.Proof.Block

open Cert.KernelIdeal Cert.KernelIdeal.Gen
open Idealize.ShloMosaic
open Cert.Proof.Pick Cert.Proof.Consts

/-- Hyperplane `i` of round `z` is row `64 z + i` of the 256. -/
def row (z : Fin 4) (i : Fin 64) : Fin 256 := ⟨64 * z.val + i.val, by omega⟩

/-- The scores of one round of one position, from the 256 rows. -/
def roundScores (s : FVec Ideal S256x4096 .f32) (z : Fin 4) (p : Fin 4096) (i : Fin 64) : EReal :=
  s (ix2 (row z i) p)

/-- One round's rows: what the kernel looks for in them, -/
theorem target_at (v : FVec Ideal S64x4096 .f32) (z : Fin 64) (p : Fin 4096) :
    target v (ix2 z p) = aim fun i => v (ix2 i p) := by
  unfold target usePos rowMax rowMin
  pointwise
  rw [ofBits_bot, ofBits_top, zero_sub]
  rfl

/-- and what it adds to the row found. -/
theorem offset_at (v : FVec Ideal S64x4096 .f32) (z : Fin 1) (p : Fin 4096) :
    offset v (ix2 z p) = ((off fun i => v (ix2 i p) : ℕ) : ℝ) := by
  unfold offset usePos rowMax rowMin
  pointwise
  rw [ofBits_bot, ofBits_top, ofBits_64, zero_sub]
  unfold off top bot
  split <;> simp

/-- The four rounds' rows. -/
theorem round0_at (s : FVec Ideal S256x4096 .f32) (p : Fin 4096) : (fun i => round0 s (ix2 i p)) = roundScores s 0 p := by
  funext i; unfold round0 roundScores row; pointwise
theorem round1_at (s : FVec Ideal S256x4096 .f32) (p : Fin 4096) : (fun i => round1 s (ix2 i p)) = roundScores s 1 p := by
  funext i; unfold round1 roundScores row; pointwise
theorem round2_at (s : FVec Ideal S256x4096 .f32) (p : Fin 4096) : (fun i => round2 s (ix2 i p)) = roundScores s 2 p := by
  funext i; unfold round2 roundScores row; pointwise
theorem round3_at (s : FVec Ideal S256x4096 .f32) (p : Fin 4096) : (fun i => round3 s (ix2 i p)) = roundScores s 3 p := by
  funext i; unfold round3 roundScores row; pointwise

/-- What is looked for in a row of round `z` is what is looked for in the round, -/
theorem targets_at (s : FVec Ideal S256x4096 .f32) (z : Fin 4) (i : Fin 64) (p : Fin 4096) :
    targets s (ix2 (row z i) p) = aim (roundScores s z p) := by
  unfold targets row
  pointwise
  fin_vals z with hz
  · obtain rfl : z = 0 := Fin.ext hz
    rw [dif_pos (by simp), target_at, round0_at]
  · obtain rfl : z = 1 := Fin.ext hz
    rw [dif_neg (by omega), dif_pos (by omega), target_at, round1_at]
  · obtain rfl : z = 2 := Fin.ext hz
    rw [dif_neg (by omega), dif_neg (by omega), dif_pos (by omega), target_at, round2_at]
  · obtain rfl : z = 3 := Fin.ext hz
    rw [dif_neg (by omega), dif_neg (by omega), dif_neg (by omega), target_at, round3_at]

/-- and round `z`'s offset is the round's. -/
theorem offsets_at (s : FVec Ideal S256x4096 .f32) (z : Fin 4) (p : Fin 4096) :
    offsets s (ix2 z p) = ((off (roundScores s z p) : ℕ) : ℝ) := by
  unfold offsets
  pointwise
  fin_vals z with hz
  · obtain rfl : z = 0 := Fin.ext hz
    rw [dif_pos (by omega), offset_at, round0_at]
  · obtain rfl : z = 1 := Fin.ext hz
    rw [dif_neg (by omega), dif_pos (by omega), offset_at, round1_at]
  · obtain rfl : z = 2 := Fin.ext hz
    rw [dif_neg (by omega), dif_neg (by omega), dif_pos (by omega), offset_at, round2_at]
  · obtain rfl : z = 3 := Fin.ext hz
    rw [dif_neg (by omega), dif_neg (by omega), dif_neg (by omega), offset_at, round3_at]

/-- Row `k` belongs to round `z` when `k / 64 = z`. -/
theorem inRound_at (z : Fin 4) (k : Fin 256) : inRound (ix2 z k) = if k.val / 64 = z.val then 1#1 else 0#1 := by
  unfold inRound
  pointwise
  revert z k
  decide +kernel

/-- A number below 2³¹, taken as a word and turned into a float, is that number. -/
theorem sitofp_nat {n : ℕ} (h : n < 2 ^ 31) : FloatOps.sitofp (F := Ideal) .f32 (BitVec.ofNat 32 n) = ((n : ℝ) : EReal) := by
  show (((BitVec.ofNat 32 n).toInt : ℝ) : EReal) = _
  rw [BitVec.toInt_eq_toNat_of_lt (by simp; omega)]
  rw [BitVec.toNat_ofNat, Nat.mod_eq_of_lt (by omega)]
  simp

/-- A row contributes its number where its score is the one looked for, and 0 elsewhere. -/
theorem contrib_at (s : FVec Ideal S256x4096 .f32) (k : Fin 256) (p : Fin 4096) :
    contrib s (ix2 k p) = if s (ix2 k p) = targets s (ix2 k p) then ((k.val : ℝ) : EReal) else 0 := by
  unfold contrib
  pointwise
  rw [sitofp_nat (by omega)]

/-- With one hit in round `z`, the only row that counts in the round's sum is the hit's. -/
theorem term_at (s : FVec Ideal S256x4096 .f32) (z : Fin 4) (p : Fin 4096) (i : Fin 64) (h : OneHit (roundScores s z p) i) (k : Fin 256) :
    FloatOps.sitofp (F := Ideal) .f32 (BitVec.setWidth 32 (inRound (ix2 z k))) * contrib s (ix2 k p)
      = if k = (row z i) then ((((64 * z.val + i.val : ℕ)) : ℝ) : EReal) else 0 := by
  rw [inRound_at]
  by_cases hk : k.val / 64 = z.val
  · obtain ⟨j, rfl⟩ : ∃ j : Fin 64, k = row z j := ⟨⟨k.val % 64, by omega⟩, Fin.ext (by simp [row]; omega)⟩
    have e1 : FloatOps.sitofp (F := Ideal) .f32 (BitVec.setWidth 32 1#1) = 1 := by
      rw [show BitVec.setWidth 32 1#1 = BitVec.ofNat 32 1 from rfl, sitofp_nat (by omega)]; simp
    rw [if_pos hk, e1, one_mul, contrib_at, targets_at]
    have : s (ix2 (row z j) p) = aim (roundScores s z p) ↔ j = i := h j
    by_cases hj : j = i
    · subst hj
      rw [if_pos (this.2 rfl), if_pos rfl]
      rfl
    · rw [if_neg (fun hc => hj (this.1 hc)), if_neg]
      intro hc; exact hj (Fin.ext (by simpa [row] using congrArg Fin.val hc))
  · have e0 : FloatOps.sitofp (F := Ideal) .f32 (BitVec.setWidth 32 0#1) = 0 := by
      rw [show BitVec.setWidth 32 0#1 = BitVec.ofNat 32 0 from rfl, sitofp_nat (by omega)]; simp
    rw [if_neg hk, e0, zero_mul, if_neg]
    rintro rfl
    exact hk (by simp [row]; omega)

/-- With one hit `i` in round `z`, the float the kernel forms is `(i + off) * 4096 + p`, a natural number, -/
theorem hashF_at (s : FVec Ideal S256x4096 .f32) (z : Fin 4) (p : Fin 4096) (i : Fin 64) (h : OneHit (roundScores s z p) i) :
    hashF s (ix2 z p) = ((((place (roundScores s z p) i).val * 4096 + p.val : ℕ) : ℝ) : EReal) := by
  unfold hashF rowSum
  pointwise
  simp only [term_at s z p i h]
  rw [Finset.sum_ite_eq' Finset.univ, if_pos (Finset.mem_univ _), offsets_at, ofBits_64, ofBits_4096, sitofp_nat (by omega), sitofp_nat (by omega)]
  simp only [← EReal.coe_mul, ← EReal.coe_add, ← EReal.coe_sub]
  congr 1
  simp only [place]
  push_cast
  ring

/-- and the word stored is that number's. -/
theorem hashes_at (x : Vec Ideal S1x4096x64 .f32) (r : Vec Ideal S1x64x256 .f32) (b : Fin 1) (z : Fin 4) (p : Fin 4096) (i : Fin 64)
    (h : OneHit (roundScores (scores x r) z p) i) :
    hashes x r (ix3 b z p) = BitVec.ofNat 32 ((place (roundScores (scores x r) z p) i).val * 4096 + p.val) := by
  unfold hashes
  pointwise
  rw [hashF_at _ _ _ _ h]
  have hn : (place (roundScores (scores x r) z p) i).val * 4096 + p.val < 2 ^ 31 := by omega
  generalize (place (roundScores (scores x r) z p) i).val * 4096 + p.val = n at hn
  show BitVec.ofInt 32 (Ideal.toIntClamped _ _ ((n : ℝ) : EReal)) = _
  rw [Ideal.toIntClamped_coe, if_pos (Nat.cast_nonneg n), Int.floor_natCast, min_eq_right (by push_cast; omega), max_eq_right (by push_cast; omega), BitVec.ofInt_natCast]

/-- A score is the sum, over the 64 features, of the hyperplane's entry times the position's entry divided by the larger of
    the position's length and the small constant. -/
theorem scores_at (x : Vec Ideal S1x4096x64 .f32) (r : Vec Ideal S1x64x256 .f32) (k : Fin 256) (p : Fin 4096) :
    scores x r (ix2 k p) = ∑ d : Fin 64, r (ix3 0 d k) *
      Ideal.div (x (ix3 0 p d)) (max (Ideal.sqrt (∑ e : Fin 64, x (ix3 0 p e) * x (ix3 0 p e))) (Ideal.ofBits .f32 0x2B8CBCCC#32)) := by
  unfold scores
  pointwise

end Cert.Proof.Block

end
-- ==== Proof.RefAt.lean ====
/-
  What the reference computes, read at one batch, position and round, over the extended reals: where the score that the
  kernel looks for stands at one position `i` of the round's 64 (`Pick.OneHit`), the reference's arg-max is the place of `i`
  among the scores and their negations (`bucket_at`), and its result is that place times 4096, plus the position
  (`answer_at`).
-/
module

public import proofs.«01_k».proof.Proof.RefRun
public import proofs.«01_k».proof.Proof.Pick
public import proofs.«01_k».proof.Proof.Consts
public import Idealize.ShloMosaic.Lib.Pointwise

@[expose] public section

set_option maxRecDepth 16384

noncomputable section

namespace Cert.Proof.Ref

open Cert.ReferenceIdeal Cert.ReferenceIdeal.Gen
open Idealize.ShloMosaic
open Cert.Proof.Pick Cert.Proof.Consts

/-- The reference's scores of one position in one round. -/
def roundScores (s : FVec Ideal S32x4096x4x64 .f32) (b : Fin 32) (p : Fin 4096) (z : Fin 4) (i : Fin 64) : EReal :=
  s (ix4 b p z i)

/-- A score is the sum, over the 64 features, of the position's entry divided by the larger of the position's length and the
    small constant, times the hyperplane's entry. -/
theorem scores_at (x : FVec Ideal S32x4096x64 .f32) (r : FVec Ideal S32x64x4x64 .f32) (b : Fin 32) (p : Fin 4096) (z : Fin 4) (i : Fin 64) :
    scores x r (ix4 b p z i) = ∑ d : Fin 64,
      Ideal.div (x (ix3 b p d)) (max (Ideal.sqrt (∑ e : Fin 64, x (ix3 b p e) * x (ix3 b p e))) (Ideal.ofBits .f32 0x2B8CBCCC#32)) * r (ix4 b d z i) := by
  unfold scores
  pointwise

/-- The 128 entries of one position in one round are the round's scores and then their negations. -/
theorem both_at (s : FVec Ideal S32x4096x4x64 .f32) (b : Fin 32) (p : Fin 4096) (z : Fin 4) (k : Fin 128) :
    both s (ix4 b p z k) = pair (roundScores s b p z) k := by
  unfold both pair roundScores
  pointwise

/-- The arg-max's combining function keeps the greater entry and, of equal ones, the smaller number. -/
theorem reducer_eq (a b : EReal × BitVec 32) : reducer_argmax_f32_i32 (F := Ideal) a b = step a b := by
  obtain ⟨x, i⟩ := a
  obtain ⟨y, j⟩ := b
  unfold reducer_argmax_f32_i32 step
  simp only [Ideal.cmpf_def, Ideal.cmp, IntOp.ori, IntOp.andi, IntOp.cmpi, Scalar.select]
  rcases lt_trichotomy y x with h | h | h
  · simp [h, h.le, h.ne, h.ne']
  · subst h
    by_cases hs : i.slt j <;> simp [hs]
  · simp [h, h.le, h.ne, h.ne', not_lt_of_gt h]

/-- The arg-max folds over the 128 entries of its position and round, in order. -/
theorem fiber_eq (w : FVec Ideal S32x4096x4x128 .f32) (b : Fin 32) (p : Fin 4096) (z : Fin 4) :
    Host.argReduceFiber w (iotaInDim S32x4096x4x128 32 3) reducesTo_S32x4096x4x128_S32x4096x4_d3 (ix3 b p z)
      = (List.finRange 128).map fun k => (w (ix4 b p z k), BitVec.ofNat 32 k.val) := by
  have hlist : ((List.finRange S32x4096x4x128.numel).filter fun n => reducesTo_S32x4096x4x128_S32x4096x4_d3.drop (S32x4096x4x128.rowMajor.symm n) = ix3 b p z)
      = (List.finRange 128).map fun k => S32x4096x4x128.rowMajor (ix4 b p z k) := by
    have hval : ∀ k : Fin 128, (S32x4096x4x128.rowMajor (ix4 b p z k) : ℕ) = b.val * (4096 * (4 * 128)) + p.val * (4 * 128) + z.val * 128 + k.val :=
      fun k => rowMajor_val4 (d := ![32, 4096, 4, 128]) (ix4 b p z k) _ _ _ rfl rfl rfl
    have s1 : ((List.finRange S32x4096x4x128.numel).filter fun n => reducesTo_S32x4096x4x128_S32x4096x4_d3.drop (S32x4096x4x128.rowMajor.symm n) = ix3 b p z).Pairwise (· < ·) :=
      (List.pairwise_lt_finRange _).filter _
    have s2 : ((List.finRange 128).map fun k => S32x4096x4x128.rowMajor (ix4 b p z k)).Pairwise (· < ·) := by
      rw [List.pairwise_map]
      refine (List.pairwise_lt_finRange _).imp fun {i j} hij => ?_
      rw [Fin.lt_def, hval, hval]
      have : i.val < j.val := hij
      omega
    refine List.Perm.eq_of_pairwise (fun i j _ _ hij hji => absurd hij (lt_asymm hji)) s1 s2 ?_
    refine (List.perm_ext_iff_of_nodup (s1.imp ne_of_lt) (s2.imp ne_of_lt)).2 fun n => ?_
    simp only [List.mem_filter, List.mem_finRange, true_and, decide_eq_true_eq, List.mem_map]
    rw [Shape.ReducesTo.fiber_r4_a3]
    refine exists_congr fun k => ?_
    rw [Equiv.eq_symm_apply]
    exact Iff.rfl
  unfold Host.argReduceFiber
  rw [hlist, List.map_map]
  refine List.map_congr_left fun k _ => ?_
  simp only [Function.comp, Equiv.symm_apply_apply]
  rfl

/-- The reduction over the last axis of scores paired with their indices, as the reference states it, -/
def paired (w : FVec Ideal S32x4096x4x128 .f32) : S32x4096x4.Idx → Ideal .f32 × BitVec 32 :=
  Host.argReduce (reducer_argmax_f32_i32 (F := Ideal)) w
    (iotaInDim S32x4096x4x128 32 3) (constant S_ .f32 0xFF800000#32) (constantI S_ 32 0#32)
    reducesTo_S32x4096x4x128_S32x4096x4_d3 h_S_
/-- and as a plain fold. -/
def folded (w : FVec Ideal S32x4096x4x128 .f32) : S32x4096x4.Idx → Ideal .f32 × BitVec 32 :=
  Host.reduce2 (reducer_argmax_f32_i32 (F := Ideal)) w
    (iotaInDim S32x4096x4x128 32 3) (constant S_ .f32 0xFF800000#32) (constantI S_ 32 0#32)
    reducesTo_S32x4096x4x128_S32x4096x4_d3 h_S_

/-- The bucket is the index half of the paired reduction over the last axis. -/
theorem bucket_reduce (w : FVec Ideal S32x4096x4x128 .f32) :
    bucket w = fun j => (paired w j).2 := rfl

/-- The paired reduction over ideal numbers is a plain fold. -/
theorem reduce_plain (w : FVec Ideal S32x4096x4x128 .f32) :
    paired w = folded w :=
  Ideal.argReduce_eq_reduce2 _ w _ _ _ _ _

/-- At one place that fold runs along the scores of the place, in order. -/
theorem reduce_at (w : FVec Ideal S32x4096x4x128 .f32) (b : Fin 32) (p : Fin 4096) (z : Fin 4) :
    folded w (ix3 b p z)
      = ((List.finRange 128).map fun k =>
          ((w (ix4 b p z k) : EReal), BitVec.ofNat 32 k.val)).foldl
            (reducer_argmax_f32_i32 (F := Ideal)) (Ideal.ofBits .f32 0xFF800000#32, 0#32) :=
  (Host.reduce2_eq_foldl_fiber _ w _ _ _ _ _ _).trans (congrArg (List.foldl _ _) (fiber_eq w b p z))

/-- The bucket at one place: the index half of a scan through the scores of the place. -/
theorem bucket_eq (w : FVec Ideal S32x4096x4x128 .f32) (b : Fin 32) (p : Fin 4096) (z : Fin 4) :
    bucket w (ix3 b p z)
      = (((List.finRange 128).map fun k =>
          ((w (ix4 b p z k) : EReal), BitVec.ofNat 32 k.val)).foldl
            (reducer_argmax_f32_i32 (F := Ideal)) (Ideal.ofBits .f32 0xFF800000#32, 0#32)).2 :=
  (congrFun (bucket_reduce w) _).trans
    (congrArg Prod.snd ((congrFun (reduce_plain w) _).trans (reduce_at w b p z)))

/-- With one hit `i`, the arg-max is the place of `i`, -/
theorem bucket_at (s : FVec Ideal S32x4096x4x64 .f32) (b : Fin 32) (p : Fin 4096) (z : Fin 4) (i : Fin 64)
    (h : OneHit (roundScores s b p z) i) :
    bucket (both s) (ix3 b p z) = BitVec.ofNat 32 (place (roundScores s b p z) i).val := by
  rw [bucket_eq, ofBits_bot, funext fun a => funext fun c => reducer_eq a c]
  simp only [both_at]
  rw [scan_eq _ _ (pair_le h) (pair_lt h)]

/-- and the result is that place times 4096, plus the position. -/
theorem answer_at (x : FVec Ideal S32x4096x64 .f32) (r : FVec Ideal S32x64x4x64 .f32) (b : Fin 32) (p : Fin 4096) (z : Fin 4) (i : Fin 64)
    (h : OneHit (roundScores (scores x r) b p z) i) :
    answer x r (ix3 b p z) = BitVec.ofNat 32 ((place (roundScores (scores x r) b p z) i).val * 4096 + p.val) := by
  unfold answer hash
  pointwise
  rw [bucket_at _ _ _ _ _ h]
  show BitVec.ofNat 32 _ * BitVec.ofNat 32 4096 + BitVec.ofNat 32 p.val = _
  rw [← BitVec.ofNat_mul, ← BitVec.ofNat_add]

end Cert.Proof.Ref

end
-- ==== Proof.PreAt.lean ====
/-
  What the precondition says at one batch, position and round, over the extended reals: it counts the scores, and the negated
  scores, that equal the greatest of both; where it holds, the score that the kernel looks for stands at exactly one position
  of the round's 64 (`oneHit`).
-/
module

public import proofs.«01_k».proof.Pre_no_ties
public import proofs.«01_k».proof.Proof.Gen.Pre_no_ties
public import proofs.«01_k».proof.Proof.RefAt
public import Idealize.ShloMosaic.Lib.IndicatorCount

@[expose] public section

set_option maxRecDepth 16384

noncomputable section

namespace Cert.Proof.PreAt

open Cert.Pre_no_ties Cert.Pre_no_ties.Gen
open Idealize.ShloMosaic
open Cert.Proof.Pick Cert.Proof.Consts

/-- The predicate's value at one batch, position and round, over the round's scores `v`: the count of scores equal to the
    greatest entry of `pair v` is one, or it is zero and the count of negated scores equal to it is one. -/
theorem fn_at (x : FVec Ideal S32x4096x64 .f32) (r : FVec Ideal S32x64x4x64 .f32) (n : IVec S_ 32) (b : Fin 32) (p : Fin 4096) (z : Fin 4)
    (v : Fin 64 → EReal) (hv : v = Ref.roundScores (Ref.scores x r) b p z) :
    fn (F := Ideal) x r n (ix3 b p z) =
      IntOp.ori (IntOp.cmpi .eq (Finset.univ.fold IntOp.addi 0#32 fun i => (BitVec.ofBool (decide (v i = Finset.univ.fold max ⊥ (pair v)))).setWidth 32) 1#32)
        (IntOp.andi (IntOp.cmpi .eq (Finset.univ.fold IntOp.addi 0#32 fun i => (BitVec.ofBool (decide (v i = Finset.univ.fold max ⊥ (pair v)))).setWidth 32) 0#32)
          (IntOp.cmpi .eq (Finset.univ.fold IntOp.addi 0#32 fun i => (BitVec.ofBool (decide (-(v i) = Finset.univ.fold max ⊥ (pair v)))).setWidth 32) 1#32)) := by
  subst hv
  unfold fn fn_part1
  pointwise
  rw [ofBits_bot]
  have hp : ∀ v : Fin 64 → EReal, pair v = fun k => if h : k.val < 64 then v ⟨k.val, h⟩ else -(v ⟨k.val - 64, by omega⟩) :=
    fun _ => rfl
  simp only [hp, Ref.roundScores, Ref.scores_at]

/-- A count of at most 64 equals a small number as a word when it does as a number. -/
theorem count_eq {P : Fin 64 → Prop} [DecidablePred P] {k : ℕ} (hk : k < 2) :
    IntOp.cmpi .eq (Finset.univ.fold IntOp.addi 0#32 fun i => (BitVec.ofBool (decide (P i))).setWidth 32) (BitVec.ofNat 32 k) = 1#1
      ↔ (Finset.univ.filter P).card = k := by
  rw [IndicatorCount.fold_addi_setWidth_eq_card]
  have e : (Finset.univ.filter fun i => BitVec.ofBool (decide (P i)) = 1#1) = Finset.univ.filter P :=
    Finset.filter_congr fun i _ => by by_cases h : P i <;> simp [h]
  have hc : (Finset.univ.filter P).card ≤ 64 := (Finset.card_le_univ _).trans (by simp)
  rw [e]
  generalize (Finset.univ.filter P).card = c at hc
  simp only [IntOp.cmpi]
  have ob : ∀ t : Bool, BitVec.ofBool t = 1#1 ↔ t = true := by decide
  rw [ob, beq_iff_eq]
  constructor
  · intro h
    have := congrArg BitVec.toNat h
    simp only [BitVec.toNat_ofNat] at this
    omega
  · intro h
    rw [h]

/-- A one-bit word `a or (b and c)` is one only if `a` is, or `b` and `c` are. -/
theorem words_or {a b c : BitVec 1} (h : IntOp.ori a (IntOp.andi b c) = 1#1) : a = 1#1 ∨ b = 1#1 ∧ c = 1#1 := by
  revert a b c
  decide

/-- Where the precondition holds, the score that the kernel looks for stands at one position of each round's 64. -/
theorem oneHit (x : FVec Ideal S32x4096x64 .f32) (r : FVec Ideal S32x64x4x64 .f32) (n : IVec S_ 32)
    (h : fn (F := Ideal) x r n = fun _ => 1#1) (b : Fin 32) (p : Fin 4096) (z : Fin 4) :
    ∃ i, OneHit (Ref.roundScores (Ref.scores x r) b p z) i := by
  have e := congrFun h (ix3 b p z)
  rw [fn_at x r n b p z _ rfl] at e
  refine exists_oneHit ?_
  rcases words_or e with h1 | ⟨h0, h2⟩
  · exact .inl ((count_eq (k := 1) (by omega)).1 h1)
  · exact .inr ⟨(count_eq (k := 0) (by omega)).1 h0, (count_eq (k := 1) (by omega)).1 h2⟩

end Cert.Proof.PreAt

end
-- ==== Proof.Equation.lean ====
/-
  The equation: where the precondition holds, the kernel's program and the reference return the same words. Both words are
  "the place of the score looked for, times 4096, plus the position" over the same 64 scores, so all that is left is that the
  scores are the same numbers (`roundScores_eq`): the kernel multiplies matrix by position and the reference position by
  matrix, and the kernel reads the matrices with rounds and hyperplanes in one axis.
-/
module

public import proofs.«01_k».proof.Proof.BlockAt
public import proofs.«01_k».proof.Proof.KernelRun
public import proofs.«01_k».proof.Proof.RefAt
public import proofs.«01_k».proof.Proof.PreAt

@[expose] public section

set_option maxRecDepth 16384

noncomputable section

namespace Cert.Proof.Equation

open Cert.KernelIdeal Cert.KernelIdeal.Gen
open Idealize.ShloMosaic
open Cert.Proof.Pick Cert.Proof.KernelRun

/-- The matrices with rounds and hyperplanes in one axis, as the kernel's grid reads them. -/
def flat (r : Vec Ideal S32x64x4x64 .f32) : Vec Ideal S32x64x256 .f32 := shapeCast S32x64x256 r shapeCasts_S32x64x4x64_S32x64x256

/-- Column `64 z + i` of a flattened matrix is hyperplane `i` of round `z`. -/
theorem flat_at (r : Vec Ideal S32x64x4x64 .f32) (b : Fin 32) (d : Fin 64) (z : Fin 4) (i : Fin 64) :
    flat r (ix3 b d (Block.row z i)) = r (ix4 b d z i) := by
  unfold flat Block.row
  pointwise

/-- The 64 scores of one batch, position and round are the same numbers in the kernel and in the reference. -/
theorem roundScores_eq (x : Vec Ideal S32x4096x64 .f32) (r : Vec Ideal S32x64x4x64 .f32) (b : Fin 32) (p : Fin 4096) (z : Fin 4) :
    Block.roundScores (Block.scores (posOf x b) (matOf (flat r) b)) z p = Ref.roundScores (Ref.scores x r) b p z := by
  funext i
  unfold Block.roundScores Ref.roundScores
  rw [Block.scores_at, Ref.scores_at]
  refine Finset.sum_congr rfl fun d _ => ?_
  rw [mul_comm]
  exact congrArg _ (flat_at r b d z i)

/-- The kernel's result at one batch, position and round is its batch's hash there. -/
theorem answer_at (x : Vec Ideal S32x4096x64 .f32) (r : Vec Ideal S32x64x4x64 .f32) (b : Fin 32) (p : Fin 4096) (z : Fin 4) :
    KernelRun.answer x r (ix3 b p z) = Block.hashes (posOf x b) (matOf (flat r) b) (ix3 0 z p) := by
  unfold KernelRun.answer
  pointwise
  rfl

/-- Where the precondition holds, the two programs return the same words. -/
theorem answer_eq (x : Vec Ideal S32x4096x64 .f32) (r : Vec Ideal S32x64x4x64 .f32) (n : IVec S_ 32)
    (h : Cert.Pre_no_ties.fn (F := Ideal) x r n = fun _ => 1#1) : KernelRun.answer x r = Ref.answer (F := Ideal) x r := by
  funext j
  obtain ⟨b, p, z, rfl⟩ : ∃ (b : Fin 32) (p : Fin 4096) (z : Fin 4), j = ix3 b p z :=
    ⟨j 0, j 1, j 2, funext fun a => match a with | ⟨0, _⟩ => rfl | ⟨1, _⟩ => rfl | ⟨2, _⟩ => rfl⟩
  obtain ⟨i, hi⟩ := PreAt.oneHit x r n h b p z
  rw [Ref.answer_at x r b p z i hi, answer_at, Block.hashes_at _ _ _ _ _ i (by rw [roundScores_eq]; exact hi), roundScores_eq]

end Cert.Proof.Equation

end
-- ==== Proof.lean ====
/-
  The proof of `Cert.Claim`, put together: the programs run and leave their arguments unchanged (the frames), the idealised
  kernel is the kernel's own text (nothing was replaced), and the idealised kernel returns what the idealised reference
  returns wherever the precondition holds (`algebraic`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_ties
public import proofs.«01_k».proof.Proof.KernelRun
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem

/-- Where the precondition holds, the idealised kernel and the idealised reference run from memories that agree on the
    arguments, end with equal results and leave their arguments unchanged. -/
theorem algebraic : algebraic_KernelIdeal_ReferenceIdeal_pre_no_ties (hKernelIdeal := Cert.KernelIdeal.Gen.facts)
    (hReferenceIdeal := Cert.ReferenceIdeal.Gen.facts) (hPre_no_ties := Cert.Pre_no_ties.Gen.facts) := by
  intro m g m' g' hpre hargs
  refine ⟨fun c => KernelRun.answer (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), KernelRun.run m g, ?_⟩
  refine (θ_run Cert.ReferenceIdeal.defs _ _).mono (fun r h c => ⟨(h c).1.trans ?_, (h c).2⟩) (Ref.run_main m' g')
  obtain ⟨h0, h1, -⟩ := hargs c
  rw [h0, h1]
  exact (Equation.answer_eq _ _ _ (hpre c)).symm

/-- All the claims: the frames of the three programs, the idealisation's faithfulness (no operation was replaced), and the
    equality above. -/
theorem claim : Cert.Claim :=
  ⟨Cert.Kernel.Gen.facts, Cert.KernelIdeal.Gen.facts, Cert.ReferenceIdeal.Gen.facts, Cert.Pre_no_ties.Gen.facts,
    fun m ρ _ => Cert.Kernel.Gen.frame m ρ, fun m ρ _ => Cert.KernelIdeal.Gen.frame m ρ, fun m ρ _ => Cert.KernelIdeal.Gen.frame m ρ,
    fun m ρ _ => Ref.frame m ρ, fun m ρ _ => Ref.frame m ρ, trivial, algebraic⟩

end Cert.Proof

end
